-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x256 : Shape := ⟨2, ![256, 256]⟩
abbrev S256x1024x256 : Shape := ⟨3, ![256, 1024, 256]⟩
abbrev S256 : Shape := ⟨1, ![256]⟩
abbrev S_ : Shape := ⟨0, ![]⟩

class Facts : Prop where
  bcast_S_S256x256 : S_.BroadcastsInDim S256x256 (![] : Fin 0 → Fin S256x256.rank)
  bcast_S_S256x1024x256 : S_.BroadcastsInDim S256x1024x256 (![] : Fin 0 → Fin S256x1024x256.rank)
  bcast_S_S256 : S_.BroadcastsInDim S256 (![] : Fin 0 → Fin S256.rank)

variable [Facts]

def fn {F : FTy → Type} [FloatOps F] (main_arg0 : FVec F S256x256 .f32) (main_arg1 : FVec F S256x1024x256 .f32) (main_arg2 : FVec F S256 .f32) (main_arg3 : FVec F S256 .f32) (main_arg4 : FVec F S256x256 .f32) (main_arg5 : FVec F S256 .f32) : IVec S256x256 1 × IVec S256x1024x256 1 × IVec S256 1 × IVec S256 1 × IVec S256x256 1 × IVec S256 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_v3 : FVec F S256x1024x256 .f32 := Host.absf main_arg1
  let main_cst_0 : FVec F S_ .f32 := constant S_ .f32 0x7F800000#32
  let main_v4 : FVec F S256x1024x256 .f32 := broadcastInDim S256x1024x256 ![] bcast_S_S256x1024x256 main_cst_0
  let main_v5 : IVec S256x1024x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x256 .f32 := Host.absf main_arg4
  let main_cst_3 : FVec F S_ .f32 := constant S_ .f32 0x7F800000#32
  let main_v13 : FVec F S256x256 .f32 := broadcastInDim S256x256 ![] bcast_S_S256x256 main_cst_3
  let main_v14 : IVec S256x256 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  (main_v2, main_v5, main_v8, main_v11, main_v14, main_v17)
-- ==== Kernel.lean ====
abbrev S256x256 : Shape := ⟨2, ![256, 256]⟩
abbrev S256x1024x256 : Shape := ⟨3, ![256, 1024, 256]⟩
abbrev S256 : Shape := ⟨1, ![256]⟩
abbrev S1x256 : Shape := ⟨2, ![1, 256]⟩
abbrev S262144x256 : Shape := ⟨2, ![262144, 256]⟩
abbrev S8x8192 : Shape := ⟨2, ![8, 8192]⟩
abbrev S_ : Shape := ⟨0, ![]⟩
abbrev S16384x256 : Shape := ⟨2, ![16384, 256]⟩
abbrev S16x256 : Shape := ⟨2, ![16, 256]⟩
abbrev S256x1 : Shape := ⟨2, ![256, 1]⟩
abbrev S8x256 : Shape := ⟨2, ![8, 256]⟩
abbrev S2048x256 : Shape := ⟨2, ![2048, 256]⟩
abbrev S8x2048 : Shape := ⟨2, ![8, 2048]⟩
abbrev S8 : Shape := ⟨1, ![8]⟩
abbrev S8x1 : Shape := ⟨2, ![8, 1]⟩

abbrev nBuf : Space → Nat
  | .hbm => 33
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x1024x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S262144x256, .f32⟩
  | .hbm, ⟨10, _⟩ => ⟨S8x8192, .i32⟩
  | .hbm, ⟨11, _⟩ => ⟨S_, .i32⟩
  | .hbm, ⟨12, _⟩ => ⟨S_, .i32⟩
  | .hbm, ⟨13, _⟩ => ⟨S8x8192, .i32⟩
  | .hbm, ⟨14, _⟩ => ⟨S8x8192, .i32⟩
  | .hbm, ⟨15, _⟩ => ⟨S8x8192, .i32⟩
  | .hbm, ⟨16, _⟩ => ⟨S_, .i32⟩
  | .hbm, ⟨17, _⟩ => ⟨S8x8192, .i32⟩
  | .hbm, ⟨18, _⟩ => ⟨S8x8192, .i1⟩
  | .hbm, ⟨19, _⟩ => ⟨S8x8192, .i32⟩
  | .hbm, ⟨20, _⟩ => ⟨S8x8192, .i32⟩
  | .hbm, ⟨21, _⟩ => ⟨S_, .i32⟩
  | .hbm, ⟨22, _⟩ => ⟨S8x8192, .i32⟩
  | .hbm, ⟨23, _⟩ => ⟨S8x8192, .i1⟩
  | .hbm, ⟨24, _⟩ => ⟨S8x8192, .i1⟩
  | .hbm, ⟨25, _⟩ => ⟨S_, .i32⟩
  | .hbm, ⟨26, _⟩ => ⟨S8x8192, .i32⟩
  | .hbm, ⟨27, _⟩ => ⟨S8x8192, .i32⟩
  | .hbm, ⟨28, _⟩ => ⟨S8x8192, .i32⟩
  | .hbm, ⟨29, _⟩ => ⟨S8x8192, .i32⟩
  | .hbm, ⟨30, _⟩ => ⟨S8x8192, .i1⟩
  | .hbm, ⟨31, _⟩ => ⟨S8x8192, .f32⟩
  | .hbm, ⟨32, _⟩ => ⟨S256x256, .f32⟩
  | .local _ .vmem, ⟨0, _⟩ => ⟨S256x256, .f32⟩
  | .local _ .vmem, ⟨1, _⟩ => ⟨S1x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S16384x256, .f32⟩
  | .local _ .vmem, ⟨6, _⟩ => ⟨S16384x256, .f32⟩
  | .local _ .vmem, ⟨7, _⟩ => ⟨S8x8192, .f32⟩
  | .local _ .vmem, ⟨8, _⟩ => ⟨S16x256, .f32⟩
  | .local _ .vmem, ⟨9, _⟩ => ⟨S16x256, .f32⟩
  | .local _ .vmem, ⟨10, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_c : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_c_0 : Ref sig .tc := ⟨.hbm, 25, rfl⟩
abbrev main_call0_call0_v12 : Ref sig .tc := ⟨.hbm, 26, rfl⟩
abbrev main_call0_call0_v13 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_v0 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def k0_off1 (i : grid0.Coords) (c0_i32_1 : BitVec 32) : Fin 2 → Nat :=
  let arg0 : BitVec 32 := BitVec.ofNat 32 (i 0).val
  let c16_i32 : BitVec 32 := 16#32
  let v3 : BitVec 32 := Scalar.muli arg0 c16_i32
  let v4 : BitVec 32 := Scalar.addi v3 c0_i32_1
  let v5 : Index := Scalar.indexCast v4
  let c0 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S256x256 : Shape := ⟨2, ![256, 256]⟩
abbrev S256x1024x256 : Shape := ⟨3, ![256, 1024, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x1024 : Shape := ⟨2, ![256, 1024]⟩

abbrev nBuf : Space → Nat
  | .hbm => 59
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x1024x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x256, .f32⟩
  | .hbm, ⟨28, _⟩ => ⟨S256x256, .f32⟩
  | .hbm, ⟨29, _⟩ => ⟨S1x256, .f32⟩
  | .hbm, ⟨30, _⟩ => ⟨S256x256, .f32⟩
  | .hbm, ⟨31, _⟩ => ⟨S256x256, .f32⟩
  | .hbm, ⟨32, _⟩ => ⟨S1x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S1x256, .f32⟩
  | .hbm, ⟨38, _⟩ => ⟨S256x256, .f32⟩
  | .hbm, ⟨39, _⟩ => ⟨S256x256, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256x1, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S256, .f32⟩
  | .hbm, ⟨55, _⟩ => ⟨S256x1, .f32⟩
  | .hbm, ⟨56, _⟩ => ⟨S256x1024, .f32⟩
  | .hbm, ⟨57, _⟩ => ⟨S256x1024, .f32⟩
  | .hbm, ⟨58, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Proof.Payloads.lean ====
module

public import proofs.«01_k».proof.Proof.Gen.KernelIdeal.Skeleton
public import Idealize.ShloMosaic.Lib.Pointwise

@[expose] public section

set_option maxRecDepth 16384

noncomputable section

namespace Cert.KernelIdeal.Gen

open Cert.KernelIdeal Idealize.ShloMosaic Idealize.ShloMosaic.TcCoe

/-- The mean of a row of 256 entries. -/
def mean (x : Fin 256 → EReal) : EReal := Ideal.div (∑ j, x j) (Ideal.ofBits .f32 0x43800000#32)

/-- The normalised row, with the reciprocal square root. -/
def lnRow (x g be : Fin 256 → EReal) (j : Fin 256) : EReal :=
  (x j - mean x) * Ideal.rsqrt (mean (fun k => (x k - mean x) * (x k - mean x)) + Ideal.ofBits .f32 0x3727C5AC#32) * g j + be j

/-- One scaled query entry: the projection of a normalised row by a row of weights, times the scale. -/
def scaledQ (x g be w : Fin 256 → EReal) (bq : EReal) : EReal :=
  ((∑ j, lnRow x g be j * w j) + bq) * Ideal.ofBits .f32 0x3D800000#32

/-- The scratch payload at an index is the scaled query. -/
theorem pay2_at (x W : Vec Ideal S256x256 .f32) (g be bq : Vec Ideal S1x256 .f32) (r l : Fin 256) :
    k0_pay2 (F := Ideal) x g be W bq (ix2 r l) =
      scaledQ (fun j => x (ix2 r j)) (fun j => g (ix2 0 j)) (fun j => be (ix2 0 j)) (fun j => W (ix2 l j)) (bq (ix2 0 l)) := by
  unfold k0_pay2
  pointwise [dot_S256x256_S256x256_S256x256_1_1_0_0_n_n]
  rfl

/-- The first half's stored block, from the eight query rows, the four chunks of slots and the four chunks of the mask. -/
def half0 (q : Vec Ideal S8x256 .f32) (s0 s1 s2 s3 : Vec Ideal S2048x256 .f32) (m0 m1 m2 m3 : Vec Ideal S8x2048 .f32) : FVec Ideal S8x256 .f32 :=
  k0_pay11 (F := Ideal) q (k0_pay7 q s0 m0 s1 m1) (k0_pay8 q s0 m0 s1 m1) (k0_pay9 s2) (k0_pay10 q s2) m2 s3 m3

/-- The second half's stored block, from the same kinds of values. -/
def half1 (q : Vec Ideal S8x256 .f32) (s0 s1 s2 s3 : Vec Ideal S2048x256 .f32) (m0 m1 m2 m3 : Vec Ideal S8x2048 .f32) : FVec Ideal S8x256 .f32 :=
  k0_pay1 (F := Ideal) (k0_pay21 q (k0_pay12 s0) (k0_pay13 q s0 m0) (constant S8x256 .f32 0x00000000#32) s1 m1 s2 m2 s3 m3) (k0_pay22 q (k0_pay14 q s0 m0) s1 m1 s2 m2 s3 m3) (k0_pay23 (F := Ideal))

/-- What one chunk adds to the numerator at a row and a column. -/
def chunkNum (q : Vec Ideal S8x256 .f32) (s : Vec Ideal S2048x256 .f32) (m : Vec Ideal S8x2048 .f32) (r : Fin 8) (l : Fin 256) : EReal :=
  ∑ n : Fin 2048, Ideal.exp (∑ j : Fin 256, q (ix2 r j) * s (ix2 n j)) * m (ix2 r n) * s (ix2 n l)

/-- What one chunk adds to the denominator at a row. -/
def chunkDen (q : Vec Ideal S8x256 .f32) (s : Vec Ideal S2048x256 .f32) (m : Vec Ideal S8x2048 .f32) (r : Fin 8) : EReal :=
  ∑ n : Fin 2048, Ideal.exp (∑ j : Fin 256, q (ix2 r j) * s (ix2 n j)) * m (ix2 r n)

/-- The first half at an index: the chunks' numerators over the chunks' denominators. -/
theorem half0_at (q : Vec Ideal S8x256 .f32) (s0 s1 s2 s3 : Vec Ideal S2048x256 .f32) (m0 m1 m2 m3 : Vec Ideal S8x2048 .f32) (r : Fin 8) (l : Fin 256) :
    half0 q s0 s1 s2 s3 m0 m1 m2 m3 (ix2 r l) =
      (chunkNum q s0 m0 r l + chunkNum q s1 m1 r l + chunkNum q s2 m2 r l + chunkNum q s3 m3 r l) *
        Ideal.div 1 (chunkDen q s0 m0 r + chunkDen q s1 m1 r + chunkDen q s2 m2 r + chunkDen q s3 m3 r) := by
  unfold half0
  unfold_payloads
  pointwise [dot_S8x256_S2048x256_S8x2048_1_1_0_0_n_n, dot_S8x2048_S2048x256_S8x256_1_0_0_1_n_n]
  rfl

/-- The second half at an index: the same. -/
theorem half1_at (q : Vec Ideal S8x256 .f32) (s0 s1 s2 s3 : Vec Ideal S2048x256 .f32) (m0 m1 m2 m3 : Vec Ideal S8x2048 .f32) (r : Fin 8) (l : Fin 256) :
    half1 q s0 s1 s2 s3 m0 m1 m2 m3 (ix2 r l) =
      (chunkNum q s0 m0 r l + chunkNum q s1 m1 r l + chunkNum q s2 m2 r l + chunkNum q s3 m3 r l) *
        Ideal.div 1 (chunkDen q s0 m0 r + chunkDen q s1 m1 r + chunkDen q s2 m2 r + chunkDen q s3 m3 r) := by
  unfold half1
  unfold_payloads
  pointwise [dot_S8x256_S2048x256_S8x2048_1_1_0_0_n_n, dot_S8x2048_S2048x256_S8x256_1_0_0_1_n_n]
  rfl

end Cert.KernelIdeal.Gen
-- ==== Proof.Block.lean ====
module

public import proofs.«01_k».proof.Proof.Payloads
public import proofs.«01_k».proof.Proof.Gen.KernelIdeal.Value

@[expose] public section

set_option maxRecDepth 16384

noncomputable section

namespace Cert.KernelIdeal.Gen

open Cert.KernelIdeal Idealize.ShloMosaic Idealize.ShloMosaic.TcCoe Idealize.ShloMosaic.Tactic

/-- The origin's two offsets are the zero function. -/
theorem off_zero : (![0, 0] : Fin 2 → Nat) = fun _ => 0 := funext fun a => by fin_cases a <;> rfl

/-- One store of the whole [256,256] scratch, read back, is its payload. -/
theorem read_one_store {κ : Kind} {sp : Space} (v : View sig κ sp S256x256 .f32) (f : v.ty.Contents (Elt Ideal)) (w : Vec Ideal S256x256 .f32)
    (inb : ∀ a, (![0, 0] : Fin 2 → Nat) a + S256x256.size a ≤ S256x256.size a) :
    v.read (Elt Ideal) (v.writes (Elt Ideal) f [⟨Rect.unit (s := S256x256) ![0, 0] S256x256.size inb, w⟩]) = w := by
  rw [View.read_writes_eq_canon _ _ _ fun y => ⟨_, List.mem_singleton_self _, View.mem_set_unit_zero off_zero inb y⟩,
    View.canon_unit_zero off_zero]

/-- The two stores of a grid point, the later first: rows 8 to 15 and rows 0 to 7, from the scaled queries `X`, the slots `S` and the mask `M`. -/
def ptPieces (i : grid0.Coords) (X : Vec Ideal S256x256 .f32) (S : Vec Ideal S16384x256 .f32) (M : Vec Ideal S8x8192 .f32) :
    List (View.Piece (Elt Ideal) S16x256 .f32) :=
  [⟨Rect.unit (s := S16x256) ![8, 0] S8x256.size inb_S16x256_S8x256_8_0,
     half1 (View.ld X (Rect.unit (s := S256x256) (k0_off1 i 8#32) S8x256.size (k0_off1_inb i 1)))
      (View.ld S (Rect.unit (s := S16384x256) ![8192, 0] S2048x256.size inb_S16384x256_S2048x256_8192_0))
      (View.ld S (Rect.unit (s := S16384x256) ![10240, 0] S2048x256.size inb_S16384x256_S2048x256_10240_0))
      (View.ld S (Rect.unit (s := S16384x256) ![12288, 0] S2048x256.size inb_S16384x256_S2048x256_12288_0))
      (View.ld S (Rect.unit (s := S16384x256) ![14336, 0] S2048x256.size inb_S16384x256_S2048x256_14336_0))
      (View.ld M (Rect.unit (s := S8x8192) ![0, 0] S8x2048.size inb_S8x8192_S8x2048_0_0))
      (View.ld M (Rect.unit (s := S8x8192) ![0, 2048] S8x2048.size inb_S8x8192_S8x2048_0_2048))
      (View.ld M (Rect.unit (s := S8x8192) ![0, 4096] S8x2048.size inb_S8x8192_S8x2048_0_4096))
      (View.ld M (Rect.unit (s := S8x8192) ![0, 6144] S8x2048.size inb_S8x8192_S8x2048_0_6144))⟩,
   ⟨Rect.unit (s := S16x256) ![0, 0] S8x256.size inb_S16x256_S8x256_0_0,
     half0 (View.ld X (Rect.unit (s := S256x256) (k0_off1 i 0#32) S8x256.size (k0_off1_inb i 0)))
      (View.ld S (Rect.unit (s := S16384x256) ![0, 0] S2048x256.size inb_S16384x256_S2048x256_0_0))
      (View.ld S (Rect.unit (s := S16384x256) ![2048, 0] S2048x256.size inb_S16384x256_S2048x256_2048_0))
      (View.ld S (Rect.unit (s := S16384x256) ![4096, 0] S2048x256.size inb_S16384x256_S2048x256_4096_0))
      (View.ld S (Rect.unit (s := S16384x256) ![6144, 0] S2048x256.size inb_S16384x256_S2048x256_6144_0))
      (View.ld M (Rect.unit (s := S8x8192) ![0, 0] S8x2048.size inb_S8x8192_S8x2048_0_0))
      (View.ld M (Rect.unit (s := S8x8192) ![0, 2048] S8x2048.size inb_S8x8192_S8x2048_0_2048))
      (View.ld M (Rect.unit (s := S8x8192) ![0, 4096] S8x2048.size inb_S8x8192_S8x2048_0_4096))
      (View.ld M (Rect.unit (s := S8x8192) ![0, 6144] S8x2048.size inb_S8x8192_S8x2048_0_6144))⟩]

/-- At a later point the output block is the two stores over the kept queries. -/
theorem out0_B_7_eq (c : Dev nD) (i : grid0.Coords) (arg1 : Memref sig .tc .vmem S256x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S16384x256 .f32) (harg6 : arg6.IsWhole) (arg7 : Memref sig .tc .vmem S8x8192 .f32) (harg7 : arg7.IsWhole) (arg8 : Memref sig .tc .vmem S16x256 .f32) (harg8 : arg8.IsWhole) (arg9 : Memref sig .tc .vmem S256x256 .f32) (harg9 : arg9.IsWhole) (hc0 : ¬cond0_0 i)
    (x0 : Vec Ideal S256x256 .f32) (x1 : Vec Ideal S1x256 .f32) (x2 : Vec Ideal S1x256 .f32) (x3 : Vec Ideal S256x256 .f32) (x4 : Vec Ideal S1x256 .f32) (x5 : Vec Ideal S16384x256 .f32) (x6 : Vec Ideal S8x8192 .f32) (xs0 : Vec Ideal S256x256 .f32) :
    out0_B_7 (F := Ideal) c i arg1 harg1 arg2 harg2 arg3 harg3 arg4 harg4 arg5 harg5 arg6 harg6 arg7 harg7 arg8 harg8 arg9 harg9 hc0 x0 x1 x2 x3 x4 x5 x6 xs0 = View.canon (ptPieces i xs0 x5 x6) := by
  unfold out0_B_7
  rw [View.read_writes_eq_canon _ _ _ (cover0_B_7 (F := Ideal) c i arg1 harg1 arg2 harg2 arg3 harg3 arg4 harg4 arg5 harg5 arg6 harg6 arg7 harg7 arg8 harg8 arg9 harg9 hc0 x0 x1 x2 x3 x4 x5 x6 xs0)]
  unfold kernelRun0_B
  dsimp only
  sl_unfold_words
  simp only [View.readAt_eq_ld, harg6.read_unread, harg7.read_unread, harg9.read_unread]
  rfl

/-- At the first point the scratch is left holding the scaled queries. -/
theorem sout0_A_0_eq (c : Dev nD) (i : grid0.Coords) (arg1 : Memref sig .tc .vmem S256x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S16384x256 .f32) (harg6 : arg6.IsWhole) (arg7 : Memref sig .tc .vmem S8x8192 .f32) (harg7 : arg7.IsWhole) (arg8 : Memref sig .tc .vmem S16x256 .f32) (harg8 : arg8.IsWhole) (arg9 : Memref sig .tc .vmem S256x256 .f32) (harg9 : arg9.IsWhole) (hc0 : cond0_0 i)
    (x0 : Vec Ideal S256x256 .f32) (x1 : Vec Ideal S1x256 .f32) (x2 : Vec Ideal S1x256 .f32) (x3 : Vec Ideal S256x256 .f32) (x4 : Vec Ideal S1x256 .f32) (x5 : Vec Ideal S16384x256 .f32) (x6 : Vec Ideal S8x8192 .f32) :
    sout0_A_0 (F := Ideal) c i arg1 harg1 arg2 harg2 arg3 harg3 arg4 harg4 arg5 harg5 arg6 harg6 arg7 harg7 arg8 harg8 arg9 harg9 hc0 x0 x1 x2 x3 x4 x5 x6 = k0_pay2 (F := Ideal) x0 x1 x2 x3 x4 := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  rw [View.canon_unit_zero off_zero]
  simp only [View.readAt_eq_ld, harg1.read_unread, harg2.read_unread, harg3.read_unread, harg4.read_unread, harg5.read_unread, View.ld_unit_zero (S := S256x256) off_zero, View.ld_unit_zero (S := S1x256) off_zero]

/-- At the first point the output block is the two stores over the queries just computed. -/
theorem out0_A_7_eq (c : Dev nD) (i : grid0.Coords) (arg1 : Memref sig .tc .vmem S256x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S16384x256 .f32) (harg6 : arg6.IsWhole) (arg7 : Memref sig .tc .vmem S8x8192 .f32) (harg7 : arg7.IsWhole) (arg8 : Memref sig .tc .vmem S16x256 .f32) (harg8 : arg8.IsWhole) (arg9 : Memref sig .tc .vmem S256x256 .f32) (harg9 : arg9.IsWhole) (hc0 : cond0_0 i)
    (x0 : Vec Ideal S256x256 .f32) (x1 : Vec Ideal S1x256 .f32) (x2 : Vec Ideal S1x256 .f32) (x3 : Vec Ideal S256x256 .f32) (x4 : Vec Ideal S1x256 .f32) (x5 : Vec Ideal S16384x256 .f32) (x6 : Vec Ideal S8x8192 .f32) :
    out0_A_7 (F := Ideal) c i arg1 harg1 arg2 harg2 arg3 harg3 arg4 harg4 arg5 harg5 arg6 harg6 arg7 harg7 arg8 harg8 arg9 harg9 hc0 x0 x1 x2 x3 x4 x5 x6 = View.canon (ptPieces i (k0_pay2 (F := Ideal) x0 x1 x2 x3 x4) x5 x6) := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 hc0 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x256) off_zero, View.ld_unit_zero (S := S1x256) off_zero]
  refine Eq.trans (b := View.canon (ptPieces i (arg9.view.read (Elt Ideal) (arg9.view.writes (Elt Ideal) arg9.view.junk
    [⟨Rect.unit (s := S256x256) ![0, 0] S256x256.size inb_S256x256_S256x256_0_0, k0_pay2 (F := Ideal) x0 x1 x2 x3 x4⟩])) x5 x6)) rfl ?_
  rw [read_one_store]

end Cert.KernelIdeal.Gen
-- ==== Proof.PointValue.lean ====
module

public import proofs.«01_k».proof.Proof.Block

@[expose] public section

set_option maxRecDepth 16384

noncomputable section

namespace Cert.KernelIdeal.Gen

open Cert.KernelIdeal Idealize.ShloMosaic Idealize.ShloMosaic.TcCoe

/-! The stored blocks of a grid point at an index, once the mask is known to select one batch row's slots. -/

/-- Attention of one query over its slots, unshifted: the weighted sum of the slots times the reciprocal of the weights' sum. -/
def rowOut (Q : Fin 256 → EReal) (T : Fin 1024 → Fin 256 → EReal) (l : Fin 256) : EReal :=
  (∑ s, Ideal.exp (∑ j, Q j * T s j) * T s l) * Ideal.div 1 (∑ s, Ideal.exp (∑ j, Q j * T s j))

/-- Four chunks of 2048 positions are the 8192 positions. -/
theorem sum_chunks (f : Fin 8192 → EReal) :
    (∑ n : Fin 2048, f ⟨0 + n, by omega⟩) + (∑ n : Fin 2048, f ⟨2048 + n, by omega⟩) + (∑ n : Fin 2048, f ⟨4096 + n, by omega⟩)
      + (∑ n : Fin 2048, f ⟨6144 + n, by omega⟩) = ∑ k, f k := by
  rw [Fin.sum_univ_tiles 4 2048 rfl f, Fin.sum_univ_four]
  congr 1

/-- A sum over 8192 positions of which only batch row `r`'s 1024 count. -/
theorem sum_selected (g : Fin 8192 → EReal) (r : Fin 8) :
    (∑ k : Fin 8192, if k.val / 1024 = r.val then g k else 0) = ∑ s : Fin 1024, g ⟨1024 * r + s, by omega⟩ := by
  rw [Fin.sum_univ_tiles 8 1024 rfl, Finset.sum_eq_single r]
  · refine Finset.sum_congr rfl fun s _ => ?_
    rw [if_pos (by dsimp only; omega)]
    exact congrArg g (Fin.ext (by dsimp only; omega))
  · intro b _ hb
    refine Finset.sum_eq_zero fun s _ => if_neg ?_
    have : b.val ≠ r.val := fun h => hb (Fin.ext h)
    dsimp only
    omega
  · exact fun h => absurd (Finset.mem_univ r) h

/-- The selecting mask, as a function of the position. -/
def pick (r : Fin 8) (k : Fin 8192) : EReal := if k.val / 1024 = r.val then 1 else 0

/-- The chunks' numerators together are the numerator over the selected row's slots. -/
theorem num_eq (q : Vec Ideal S8x256 .f32) (s0 s1 s2 s3 : Vec Ideal S2048x256 .f32) (m0 m1 m2 m3 : Vec Ideal S8x2048 .f32)
    (r : Fin 8) (l : Fin 256) (Q : Fin 256 → EReal) (S : Fin 8192 → Fin 256 → EReal)
    (hq : ∀ j, q (ix2 r j) = Q j)
    (h0 : ∀ n j, s0 (ix2 n j) = S ⟨0 + n, by omega⟩ j) (h1 : ∀ n j, s1 (ix2 n j) = S ⟨2048 + n, by omega⟩ j)
    (h2 : ∀ n j, s2 (ix2 n j) = S ⟨4096 + n, by omega⟩ j) (h3 : ∀ n j, s3 (ix2 n j) = S ⟨6144 + n, by omega⟩ j)
    (k0 : ∀ n, m0 (ix2 r n) = pick r ⟨0 + n, by omega⟩) (k1 : ∀ n, m1 (ix2 r n) = pick r ⟨2048 + n, by omega⟩)
    (k2 : ∀ n, m2 (ix2 r n) = pick r ⟨4096 + n, by omega⟩) (k3 : ∀ n, m3 (ix2 r n) = pick r ⟨6144 + n, by omega⟩) :
    chunkNum q s0 m0 r l + chunkNum q s1 m1 r l + chunkNum q s2 m2 r l + chunkNum q s3 m3 r l =
      ∑ s : Fin 1024, Ideal.exp (∑ j, Q j * S ⟨1024 * r + s, by omega⟩ j) * S ⟨1024 * r + s, by omega⟩ l := by
  unfold chunkNum
  simp only [hq, h0, h1, h2, h3, k0, k1, k2, k3]
  rw [sum_chunks fun k => Ideal.exp (∑ j, Q j * S k j) * pick r k * S k l]
  rw [← sum_selected fun k => Ideal.exp (∑ j, Q j * S k j) * S k l]
  refine Finset.sum_congr rfl fun k _ => ?_
  unfold pick
  split <;> simp

/-- The chunks' denominators together are the denominator over the selected row's slots. -/
theorem den_eq (q : Vec Ideal S8x256 .f32) (s0 s1 s2 s3 : Vec Ideal S2048x256 .f32) (m0 m1 m2 m3 : Vec Ideal S8x2048 .f32)
    (r : Fin 8) (Q : Fin 256 → EReal) (S : Fin 8192 → Fin 256 → EReal)
    (hq : ∀ j, q (ix2 r j) = Q j)
    (h0 : ∀ n j, s0 (ix2 n j) = S ⟨0 + n, by omega⟩ j) (h1 : ∀ n j, s1 (ix2 n j) = S ⟨2048 + n, by omega⟩ j)
    (h2 : ∀ n j, s2 (ix2 n j) = S ⟨4096 + n, by omega⟩ j) (h3 : ∀ n j, s3 (ix2 n j) = S ⟨6144 + n, by omega⟩ j)
    (k0 : ∀ n, m0 (ix2 r n) = pick r ⟨0 + n, by omega⟩) (k1 : ∀ n, m1 (ix2 r n) = pick r ⟨2048 + n, by omega⟩)
    (k2 : ∀ n, m2 (ix2 r n) = pick r ⟨4096 + n, by omega⟩) (k3 : ∀ n, m3 (ix2 r n) = pick r ⟨6144 + n, by omega⟩) :
    chunkDen q s0 m0 r + chunkDen q s1 m1 r + chunkDen q s2 m2 r + chunkDen q s3 m3 r =
      ∑ s : Fin 1024, Ideal.exp (∑ j, Q j * S ⟨1024 * r + s, by omega⟩ j) := by
  unfold chunkDen
  simp only [hq, h0, h1, h2, h3, k0, k1, k2, k3]
  rw [sum_chunks fun k => Ideal.exp (∑ j, Q j * S k j) * pick r k]
  rw [← sum_selected fun k => Ideal.exp (∑ j, Q j * S k j)]
  refine Finset.sum_congr rfl fun k _ => ?_
  unfold pick
  split <;> simp

/-- The row offset a half reads its queries at. -/
theorem off1_eq (i : grid0.Coords) : k0_off1 i 0#32 = ![16 * (i 0).val, 0] ∧ k0_off1 i 8#32 = ![16 * (i 0).val + 8, 0] := by
  revert i
  decide +kernel

/-- A load through a unit-stride rectangle at an index. -/
theorem ld_at {a b n k : Nat} (X : Vec Ideal ⟨2, ![a, b]⟩ .f32) (off : Fin 2 → Nat) (o p : Nat) (hoff : off = ![o, p])
    (inb : ∀ c, off c + (![n, k] : Fin 2 → Nat) c ≤ (![a, b] : Fin 2 → Nat) c) (x : Fin n) (y : Fin k) (hx : o + x.val < a) (hy : p + y.val < b) :
    View.ld (Val := Elt Ideal) (e' := .f32) (S := ⟨2, ![a, b]⟩) X (Rect.unit (s := ⟨2, ![a, b]⟩) off ![n, k] inb) (ix2 x y) = X (ix2 ⟨o + x.val, hx⟩ ⟨p + y.val, hy⟩) := by
  subst hoff
  refine congrArg X ?_
  funext c
  apply Fin.ext
  fin_cases c
  · exact congrArg (o + ·) (Nat.one_mul _)
  · exact congrArg (p + ·) (Nat.one_mul _)

/-- A point's output block as one function of its index. -/
def pointBlock (i : grid0.Coords) (X : Vec Ideal S256x256 .f32) (S : Vec Ideal S16384x256 .f32) (ρ : Fin 16) (l : Fin 256) : EReal :=
  rowOut (fun j => X (ix2 ⟨16 * (i 0).val + ρ.val, by have h : (i 0).val < 16 := (i 0).isLt; omega⟩ j)) (fun s j => S (ix2 ⟨1024 * ρ.val + s.val, by omega⟩ j)) l

/-- A chunk of slots read at an index. -/
theorem slots_at (S : Vec Ideal S16384x256 .f32) (p b o : Nat) (hp : p = b + o)
    (inb : ∀ a, (![p, 0] : Fin 2 → Nat) a + S2048x256.size a ≤ S16384x256.size a) (hb : b ≤ 8192) (ho : o + 2048 ≤ 8192) (n : Fin 2048) (j : Fin 256) :
    View.ld S (Rect.unit (s := S16384x256) ![p, 0] S2048x256.size inb) (ix2 n j) = (fun (k : Fin 8192) (j : Fin 256) => S (ix2 ⟨b + k.val, by omega⟩ j)) ⟨o + n, by omega⟩ j := by
  subst hp
  exact (ld_at S _ (b + o) 0 rfl _ n j (by omega) (by omega)).trans
    (congrArg S (congrArg₂ ix2 (Fin.ext (Nat.add_assoc _ _ _)) (Fin.ext (Nat.zero_add _))))

/-- A chunk of the mask read at an index. -/
theorem mask_at (M : Vec Ideal S8x8192 .f32) (hM : ∀ r n, M (ix2 r n) = pick r n) (r : Fin 8) (o : Nat)
    (inb : ∀ a, (![0, o] : Fin 2 → Nat) a + S8x2048.size a ≤ S8x8192.size a) (ho : o + 2048 ≤ 8192) (n : Fin 2048) :
    View.ld M (Rect.unit (s := S8x8192) ![0, o] S8x2048.size inb) (ix2 r n) = pick r ⟨o + n, by omega⟩ :=
  (ld_at M _ 0 o rfl _ r n (by omega) (by omega)).trans
    ((congrArg M (congrArg₂ ix2 (Fin.ext (Nat.zero_add _)) rfl)).trans (hM r _))

/-- The first half's store holds rows 0 to 7 of the block. -/
theorem store0_at (i : grid0.Coords) (X : Vec Ideal S256x256 .f32) (S : Vec Ideal S16384x256 .f32) (M : Vec Ideal S8x8192 .f32)
    (hM : ∀ r n, M (ix2 r n) = pick r n) (r : Fin 8) (l : Fin 256) :
    half0 (View.ld X (Rect.unit (s := S256x256) (k0_off1 i 0#32) S8x256.size (k0_off1_inb i 0)))
      (View.ld S (Rect.unit (s := S16384x256) ![0, 0] S2048x256.size inb_S16384x256_S2048x256_0_0))
      (View.ld S (Rect.unit (s := S16384x256) ![2048, 0] S2048x256.size inb_S16384x256_S2048x256_2048_0))
      (View.ld S (Rect.unit (s := S16384x256) ![4096, 0] S2048x256.size inb_S16384x256_S2048x256_4096_0))
      (View.ld S (Rect.unit (s := S16384x256) ![6144, 0] S2048x256.size inb_S16384x256_S2048x256_6144_0))
      (View.ld M (Rect.unit (s := S8x8192) ![0, 0] S8x2048.size inb_S8x8192_S8x2048_0_0))
      (View.ld M (Rect.unit (s := S8x8192) ![0, 2048] S8x2048.size inb_S8x8192_S8x2048_0_2048))
      (View.ld M (Rect.unit (s := S8x8192) ![0, 4096] S8x2048.size inb_S8x8192_S8x2048_0_4096))
      (View.ld M (Rect.unit (s := S8x8192) ![0, 6144] S8x2048.size inb_S8x8192_S8x2048_0_6144)) (ix2 r l) =
      pointBlock i X S ⟨0 + r.val, by omega⟩ l := by
  have hi : (i 0).val < 16 := (i 0).isLt
  have hq : ∀ j : Fin 256, View.ld X (Rect.unit (s := S256x256) (k0_off1 i 0#32) S8x256.size (k0_off1_inb i 0)) (ix2 r j)
      = X (ix2 ⟨16 * (i 0).val + (0 + r.val), by omega⟩ j) := fun j =>
    (ld_at X _ _ 0 (off1_eq i).1 _ r j (by omega) (by omega)).trans
      (congrArg X (congrArg₂ ix2 (Fin.ext (by dsimp only; omega)) (Fin.ext (Nat.zero_add _))))
  rw [half0_at, num_eq _ _ _ _ _ _ _ _ _ r l _ (fun k j => S (ix2 ⟨0 + k.val, by omega⟩ j)) hq
    (slots_at S _ 0 0 rfl _ (by omega) (by omega)) (slots_at S _ 0 2048 rfl _ (by omega) (by omega))
    (slots_at S _ 0 4096 rfl _ (by omega) (by omega)) (slots_at S _ 0 6144 rfl _ (by omega) (by omega))
    (mask_at M hM r 0 _ (by omega)) (mask_at M hM r 2048 _ (by omega)) (mask_at M hM r 4096 _ (by omega)) (mask_at M hM r 6144 _ (by omega)),
    den_eq _ _ _ _ _ _ _ _ _ r _ (fun k j => S (ix2 ⟨0 + k.val, by omega⟩ j)) hq
    (slots_at S _ 0 0 rfl _ (by omega) (by omega)) (slots_at S _ 0 2048 rfl _ (by omega) (by omega))
    (slots_at S _ 0 4096 rfl _ (by omega) (by omega)) (slots_at S _ 0 6144 rfl _ (by omega) (by omega))
    (mask_at M hM r 0 _ (by omega)) (mask_at M hM r 2048 _ (by omega)) (mask_at M hM r 4096 _ (by omega)) (mask_at M hM r 6144 _ (by omega))]
  have hT : (fun (s : Fin 1024) (j : Fin 256) => S (ix2 ⟨0 + (1024 * r.val + s.val), by omega⟩ j))
      = fun s j => S (ix2 ⟨1024 * (0 + r.val) + s.val, by omega⟩ j) :=
    funext fun s => funext fun j => congrArg S (congrArg₂ ix2 (Fin.ext (by dsimp only; omega)) rfl)
  exact congrArg (fun T => rowOut (fun j => X (ix2 ⟨16 * (i 0).val + (0 + r.val), by omega⟩ j)) T l) hT

/-- The second half's store holds rows 8 to 15 of the block. -/
theorem store1_at (i : grid0.Coords) (X : Vec Ideal S256x256 .f32) (S : Vec Ideal S16384x256 .f32) (M : Vec Ideal S8x8192 .f32)
    (hM : ∀ r n, M (ix2 r n) = pick r n) (r : Fin 8) (l : Fin 256) :
    half1 (View.ld X (Rect.unit (s := S256x256) (k0_off1 i 8#32) S8x256.size (k0_off1_inb i 1)))
      (View.ld S (Rect.unit (s := S16384x256) ![8192, 0] S2048x256.size inb_S16384x256_S2048x256_8192_0))
      (View.ld S (Rect.unit (s := S16384x256) ![10240, 0] S2048x256.size inb_S16384x256_S2048x256_10240_0))
      (View.ld S (Rect.unit (s := S16384x256) ![12288, 0] S2048x256.size inb_S16384x256_S2048x256_12288_0))
      (View.ld S (Rect.unit (s := S16384x256) ![14336, 0] S2048x256.size inb_S16384x256_S2048x256_14336_0))
      (View.ld M (Rect.unit (s := S8x8192) ![0, 0] S8x2048.size inb_S8x8192_S8x2048_0_0))
      (View.ld M (Rect.unit (s := S8x8192) ![0, 2048] S8x2048.size inb_S8x8192_S8x2048_0_2048))
      (View.ld M (Rect.unit (s := S8x8192) ![0, 4096] S8x2048.size inb_S8x8192_S8x2048_0_4096))
      (View.ld M (Rect.unit (s := S8x8192) ![0, 6144] S8x2048.size inb_S8x8192_S8x2048_0_6144)) (ix2 r l) =
      pointBlock i X S ⟨8 + r.val, by omega⟩ l := by
  have hi : (i 0).val < 16 := (i 0).isLt
  have hq : ∀ j : Fin 256, View.ld X (Rect.unit (s := S256x256) (k0_off1 i 8#32) S8x256.size (k0_off1_inb i 1)) (ix2 r j)
      = X (ix2 ⟨16 * (i 0).val + (8 + r.val), by omega⟩ j) := fun j =>
    (ld_at X _ _ 0 (off1_eq i).2 _ r j (by omega) (by omega)).trans
      (congrArg X (congrArg₂ ix2 (Fin.ext (by dsimp only; omega)) (Fin.ext (Nat.zero_add _))))
  rw [half1_at, num_eq _ _ _ _ _ _ _ _ _ r l _ (fun k j => S (ix2 ⟨8192 + k.val, by omega⟩ j)) hq
    (slots_at S _ 8192 0 rfl _ (by omega) (by omega)) (slots_at S _ 8192 2048 rfl _ (by omega) (by omega))
    (slots_at S _ 8192 4096 rfl _ (by omega) (by omega)) (slots_at S _ 8192 6144 rfl _ (by omega) (by omega))
    (mask_at M hM r 0 _ (by omega)) (mask_at M hM r 2048 _ (by omega)) (mask_at M hM r 4096 _ (by omega)) (mask_at M hM r 6144 _ (by omega)),
    den_eq _ _ _ _ _ _ _ _ _ r _ (fun k j => S (ix2 ⟨8192 + k.val, by omega⟩ j)) hq
    (slots_at S _ 8192 0 rfl _ (by omega) (by omega)) (slots_at S _ 8192 2048 rfl _ (by omega) (by omega))
    (slots_at S _ 8192 4096 rfl _ (by omega) (by omega)) (slots_at S _ 8192 6144 rfl _ (by omega) (by omega))
    (mask_at M hM r 0 _ (by omega)) (mask_at M hM r 2048 _ (by omega)) (mask_at M hM r 4096 _ (by omega)) (mask_at M hM r 6144 _ (by omega))]
  have hT : (fun (s : Fin 1024) (j : Fin 256) => S (ix2 ⟨8192 + (1024 * r.val + s.val), by omega⟩ j))
      = fun s j => S (ix2 ⟨1024 * (8 + r.val) + s.val, by omega⟩ j) :=
    funext fun s => funext fun j => congrArg S (congrArg₂ ix2 (Fin.ext (by dsimp only; omega)) rfl)
  exact congrArg (fun T => rowOut (fun j => X (ix2 ⟨16 * (i 0).val + (8 + r.val), by omega⟩ j)) T l) hT

/-- A point's two stores leave its block, row by row the attention of that row's query over that row's slots. -/
theorem point_at (i : grid0.Coords) (X : Vec Ideal S256x256 .f32) (S : Vec Ideal S16384x256 .f32) (M : Vec Ideal S8x8192 .f32)
    (hM : ∀ r n, M (ix2 r n) = pick r n) (ρ : Fin 16) (l : Fin 256) :
    View.canon (ptPieces i X S M) (ix2 ρ l) = pointBlock i X S ρ l := by
  unfold ptPieces
  by_cases h : ρ.val < 8
  · rw [View.canon_cons_of_not_mem]
    · have e : (ix2 ρ l : S16x256.Idx) = (Rect.unit (s := S16x256) ![0, 0] S8x256.size inb_S16x256_S8x256_0_0).emb (ix2 (⟨ρ.val, h⟩ : Fin 8) l) := by
        funext a
        apply Fin.ext
        fin_cases a
        · show ρ.val = 0 + 1 * ρ.val
          omega
        · show l.val = 0 + 1 * l.val
          omega
      rw [e, View.canon_cons_emb, store0_at i X S M hM]
      exact congrArg (fun x => pointBlock i X S x l) (Fin.ext (Nat.zero_add _))
    · rw [Rect.mem_set_unit]
      intro hc
      have := (hc 0).1
      have h8 : 8 ≤ ρ.val := this
      omega
  · have e : (ix2 ρ l : S16x256.Idx) = (Rect.unit (s := S16x256) ![8, 0] S8x256.size inb_S16x256_S8x256_8_0).emb (ix2 (⟨ρ.val - 8, by omega⟩ : Fin 8) l) := by
      funext a
      apply Fin.ext
      fin_cases a
      · show ρ.val = 8 + 1 * (ρ.val - 8)
        omega
      · show l.val = 0 + 1 * l.val
        omega
    rw [e, View.canon_cons_emb, store1_at i X S M hM]
    exact congrArg (fun x => pointBlock i X S x l) (Fin.ext (by dsimp only; omega))

end Cert.KernelIdeal.Gen
-- ==== Proof.HostValue.lean ====
module

public import proofs.«01_k».proof.Proof.PointValue

@[expose] public section

set_option maxRecDepth 16384

noncomputable section

namespace Cert.KernelIdeal.Gen

open Cert.KernelIdeal Idealize.ShloMosaic Idealize.ShloMosaic.TcCoe Idealize.SL.Sem

variable (m : (ℓ : Loc nD τ sig) → Buf (Elt Ideal) ℓ) (c : Dev nD)

/-- The scale vector as one row. -/
theorem V_g : V m c main_call0_v0 = shapeCast S1x256 (m ((c : Thread nD τ).loc main_arg2)) shapeCasts_S256_S1x256 := by
  unfold V
  after_results
  rfl

/-- The shift vector as one row. -/
theorem V_b : V m c main_call0_v1 = shapeCast S1x256 (m ((c : Thread nD τ).loc main_arg3)) shapeCasts_S256_S1x256 := by
  unfold V
  after_results
  rfl

/-- The query bias as one row. -/
theorem V_bq : V m c main_call0_v2 = shapeCast S1x256 (m ((c : Thread nD τ).loc main_arg5)) shapeCasts_S256_S1x256 := by
  unfold V
  after_results
  rfl

/-- The slots with batch row and slot flattened to one axis. -/
theorem V_slots : V m c main_call0_v3 = shapeCast S262144x256 (m ((c : Thread nD τ).loc main_arg1)) shapeCasts_S256x1024x256_S262144x256 := by
  unfold V
  after_results
  rfl

/-- The host's floor division of every column position by 1024. -/
def colQuot : IVec S8x8192 32 :=
  select (andi (cmpi .ne (signi (iotaInDim S8x8192 32 1)) (broadcastInDim S8x8192 ![] bcast_S_S8x8192 (signi (constantI S_ 32 1024#32))))
      (cmpi .ne (Host.remsi (iotaInDim S8x8192 32 1) (broadcastInDim S8x8192 ![] bcast_S_S8x8192 (constantI S_ 32 1024#32)))
        (broadcastInDim S8x8192 ![] bcast_S_S8x8192 (constantI S_ 32 0#32))))
    (subi (Host.divsi (iotaInDim S8x8192 32 1) (broadcastInDim S8x8192 ![] bcast_S_S8x8192 (constantI S_ 32 1024#32)))
      (broadcastInDim S8x8192 ![] bcast_S_S8x8192 (constantI S_ 32 1#32)))
    (Host.divsi (iotaInDim S8x8192 32 1) (broadcastInDim S8x8192 ![] bcast_S_S8x8192 (constantI S_ 32 1024#32)))

/-- The mask the host builds: where the quotient is the row's number, as a float. -/
theorem V_mask : V m c main_call0_v8 = (uitofp (F := Ideal) .f32 (cmpi .eq colQuot (iotaInDim S8x8192 32 0)) : FVec Ideal S8x8192 .f32) := by
  unfold V
  after_results_simp
  rfl

/-- The floor division of one position's word by 1024, over all 8192 positions. -/
theorem quot_word : ∀ n : Fin 8192, Scalar.select
      (IntOp.andi
        (IntOp.cmpi .ne (if BitVec.ofNat 32 n.val = 0 then 0 else if (BitVec.ofNat 32 n.val).msb = true then -1 else 1)
          (if 1024#32 = 0 then 0 else if (1024#32).msb = true then -1 else (1 : BitVec 32)))
        (IntOp.cmpi .ne (IntOp.remsi .host (BitVec.ofNat 32 n.val) 1024#32) 0#32))
      (IntOp.subi (IntOp.divsi .host (BitVec.ofNat 32 n.val) 1024#32) 1#32)
      (IntOp.divsi .host (BitVec.ofNat 32 n.val) 1024#32) = BitVec.ofNat 32 (n.val / 1024) := by
  decide +kernel

/-- The quotient at an index. -/
theorem colQuot_at (r : Fin 8) (n : Fin 8192) : colQuot (ix2 r n) = BitVec.ofNat 32 (n.val / 1024) := by
  unfold colQuot
  pointwise
  exact quot_word n

/-- Comparing two words below eight. -/
theorem eq_word : ∀ a r : Fin 8, IntOp.cmpi .eq (BitVec.ofNat 32 a.val) (BitVec.ofNat 32 r.val) = if a.val = r.val then 1#1 else 0#1 := by
  decide

/-- The mask selects, for each row, that row's 1024 positions. -/
theorem mask_eq (r : Fin 8) (n : Fin 8192) : (V m c main_call0_v8 : Vec Ideal S8x8192 .f32) (ix2 r n) = pick r n := by
  rw [V_mask]
  pointwise
  rw [colQuot_at]
  rw [eq_word ⟨n.val / 1024, by omega⟩ r]
  unfold pick
  dsimp only
  split
  · show ((1 : ℕ) : EReal) = 1
    norm_num
  · show ((0 : ℕ) : EReal) = 0
    norm_num

/-- The scale row at an index. -/
theorem g_at (j : Fin 256) : (V m c main_call0_v0 : Vec Ideal S1x256 .f32) (ix2 0 j) = (m ((c : Thread nD τ).loc main_arg2) : Vec Ideal S256 .f32) (ix1 j) := by
  rw [V_g]
  pointwise

/-- The shift row at an index. -/
theorem b_at (j : Fin 256) : (V m c main_call0_v1 : Vec Ideal S1x256 .f32) (ix2 0 j) = (m ((c : Thread nD τ).loc main_arg3) : Vec Ideal S256 .f32) (ix1 j) := by
  rw [V_b]
  pointwise

/-- The bias row at an index. -/
theorem bq_at (j : Fin 256) : (V m c main_call0_v2 : Vec Ideal S1x256 .f32) (ix2 0 j) = (m ((c : Thread nD τ).loc main_arg5) : Vec Ideal S256 .f32) (ix1 j) := by
  rw [V_bq]
  pointwise

/-- The flattened slots at batch row `b`, slot `s`. -/
theorem slot_at (n : Fin 262144) (b : Fin 256) (s : Fin 1024) (j : Fin 256) (hn : n.val = 1024 * b.val + s.val) :
    (V m c main_call0_v3 : Vec Ideal S262144x256 .f32) (ix2 n j) = (m ((c : Thread nD τ).loc main_arg1) : Vec Ideal S256x1024x256 .f32) (ix3 b s j) := by
  rw [V_slots]
  refine shapeCast_apply _ _ _ _ ?_
  refine (Shape.rowMajor_val_three (d := ![256, 1024, 256]) (ix3 b s j)).trans ?_
  rw [Shape.rowMajor_val_two]
  show (b.val * 1024 + s.val) * 256 + j.val = n.val * 256 + j.val
  omega

end Cert.KernelIdeal.Gen
-- ==== Proof.ArrayValue.lean ====
module

public import proofs.«01_k».proof.Proof.HostValue

@[expose] public section

set_option maxRecDepth 16384

noncomputable section

namespace Cert.KernelIdeal.Gen

open Cert.KernelIdeal Idealize.ShloMosaic Idealize.ShloMosaic.TcCoe Idealize.SL.Sem

variable (m : (ℓ : Loc nD τ sig) → Buf (Elt Ideal) ℓ) (c : Dev nD)

/-! The windows' blocks, the scratch and the output block of every point, and the result array. -/

/-- Where every input window's block lies: all at the origin but the slots', which move one block per point. -/
theorem index_facts : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = 0 ∧ win0_6.index t 1 = 0) ∧ (grid0.coords t 0).val = t.val :=
  (by decide +kernel : ∀ t : Fin grid0.N, _)

/-- Window 0's block is the input rows, whole. -/
theorem iblk0_at (t : Fin cfg0.N) (x : Fin 256) (y : Fin 256) : (iblk m c 0 t : Vec Ideal S256x256 .f32) (ix2 x y) = (V m c main_arg0 : Vec Ideal S256x256 .f32) (ix2 x y) := by
  have h := (index_facts t).1
  unfold iblk
  rw [View.read_apply]
  show V m c main_arg0 _ = V m c main_arg0 _
  congr 1
  funext a
  apply Fin.ext
  match a with
  | ⟨0, _⟩ => show win0_0.index t 0 * 256 + 1 * x.val = x.val; rw [h.1]; omega
  | ⟨1, _⟩ => show win0_0.index t 1 * 256 + 1 * y.val = y.val; rw [h.2]; omega

/-- Window 1's block is the scale row, whole. -/
theorem iblk1_at (t : Fin cfg0.N) (x : Fin 1) (y : Fin 256) : (iblk m c 1 t : Vec Ideal S1x256 .f32) (ix2 x y) = (V m c main_call0_v0 : Vec Ideal S1x256 .f32) (ix2 x y) := by
  have h := (index_facts t).2.1
  unfold iblk
  rw [View.read_apply]
  show V m c main_call0_v0 _ = V m c main_call0_v0 _
  congr 1
  funext a
  apply Fin.ext
  match a with
  | ⟨0, _⟩ => show win0_1.index t 0 * 1 + 1 * x.val = x.val; rw [h.1]; omega
  | ⟨1, _⟩ => show win0_1.index t 1 * 256 + 1 * y.val = y.val; rw [h.2]; omega

/-- Window 2's block is the shift row, whole. -/
theorem iblk2_at (t : Fin cfg0.N) (x : Fin 1) (y : Fin 256) : (iblk m c 2 t : Vec Ideal S1x256 .f32) (ix2 x y) = (V m c main_call0_v1 : Vec Ideal S1x256 .f32) (ix2 x y) := by
  have h := (index_facts t).2.2.1
  unfold iblk
  rw [View.read_apply]
  show V m c main_call0_v1 _ = V m c main_call0_v1 _
  congr 1
  funext a
  apply Fin.ext
  match a with
  | ⟨0, _⟩ => show win0_2.index t 0 * 1 + 1 * x.val = x.val; rw [h.1]; omega
  | ⟨1, _⟩ => show win0_2.index t 1 * 256 + 1 * y.val = y.val; rw [h.2]; omega

/-- Window 3's block is the weights, whole. -/
theorem iblk3_at (t : Fin cfg0.N) (x : Fin 256) (y : Fin 256) : (iblk m c 3 t : Vec Ideal S256x256 .f32) (ix2 x y) = (V m c main_arg4 : Vec Ideal S256x256 .f32) (ix2 x y) := by
  have h := (index_facts t).2.2.2.1
  unfold iblk
  rw [View.read_apply]
  show V m c main_arg4 _ = V m c main_arg4 _
  congr 1
  funext a
  apply Fin.ext
  match a with
  | ⟨0, _⟩ => show win0_3.index t 0 * 256 + 1 * x.val = x.val; rw [h.1]; omega
  | ⟨1, _⟩ => show win0_3.index t 1 * 256 + 1 * y.val = y.val; rw [h.2]; omega

/-- Window 4's block is the bias row, whole. -/
theorem iblk4_at (t : Fin cfg0.N) (x : Fin 1) (y : Fin 256) : (iblk m c 4 t : Vec Ideal S1x256 .f32) (ix2 x y) = (V m c main_call0_v2 : Vec Ideal S1x256 .f32) (ix2 x y) := by
  have h := (index_facts t).2.2.2.2.1
  unfold iblk
  rw [View.read_apply]
  show V m c main_call0_v2 _ = V m c main_call0_v2 _
  congr 1
  funext a
  apply Fin.ext
  match a with
  | ⟨0, _⟩ => show win0_4.index t 0 * 1 + 1 * x.val = x.val; rw [h.1]; omega
  | ⟨1, _⟩ => show win0_4.index t 1 * 256 + 1 * y.val = y.val; rw [h.2]; omega

/-- Window 6's block is the mask, whole. -/
theorem iblk6_at (t : Fin cfg0.N) (x : Fin 8) (y : Fin 8192) : (iblk m c 6 t : Vec Ideal S8x8192 .f32) (ix2 x y) = (V m c main_call0_v8 : Vec Ideal S8x8192 .f32) (ix2 x y) := by
  have h := (index_facts t).2.2.2.2.2.2.1
  unfold iblk
  rw [View.read_apply]
  show V m c main_call0_v8 _ = V m c main_call0_v8 _
  congr 1
  funext a
  apply Fin.ext
  match a with
  | ⟨0, _⟩ => show win0_6.index t 0 * 8 + 1 * x.val = x.val; rw [h.1]; omega
  | ⟨1, _⟩ => show win0_6.index t 1 * 8192 + 1 * y.val = y.val; rw [h.2]; omega

/-- Window 5's block at point `t` is the slots' flat rows from `16384 t`. -/
theorem iblk5_at (t : Fin cfg0.N) (x : Fin 16384) (y : Fin 256) (n : Fin 262144) (hn : n.val = 16384 * t.val + x.val) :
    (iblk m c 5 t : Vec Ideal S16384x256 .f32) (ix2 x y) = (V m c main_call0_v3 : Vec Ideal S262144x256 .f32) (ix2 n y) := by
  have h := (index_facts t).2.2.2.2.2.1
  unfold iblk
  rw [View.read_apply]
  show V m c main_call0_v3 _ = V m c main_call0_v3 _
  congr 1
  funext a
  apply Fin.ext
  match a with
  | ⟨0, _⟩ => show win0_5.index t 0 * 16384 + 1 * x.val = n.val; rw [h.1]; omega
  | ⟨1, _⟩ => show win0_5.index t 1 * 256 + 1 * y.val = y.val; rw [h.2]; omega

/-- The scaled queries the first point leaves in the scratch. -/
def queries : Vec Ideal S256x256 .f32 :=
  k0_pay2 (F := Ideal) (iblk m c 0 ⟨0, by rw [show cfg0.N = 16 from N_0]; decide⟩) (iblk m c 1 ⟨0, by rw [show cfg0.N = 16 from N_0]; decide⟩)
    (iblk m c 2 ⟨0, by rw [show cfg0.N = 16 from N_0]; decide⟩) (iblk m c 3 ⟨0, by rw [show cfg0.N = 16 from N_0]; decide⟩)
    (iblk m c 4 ⟨0, by rw [show cfg0.N = 16 from N_0]; decide⟩)

/-- After every point the scratch holds the scaled queries and the output's staging buffer that point's block. -/
theorem outsAt_eq : ∀ (n : ℕ) (h : n < cfg0.N), outsAt0 m c n h =
    (View.canon (ptPieces (grid0.coords ⟨n, h⟩) (queries m c) (iblk m c 5 ⟨n, h⟩) (iblk m c 6 ⟨n, h⟩)), queries m c)
  | 0, h => by
    rw [outsAt0_A m c ⟨0, h⟩ rfl, out0_A_7_eq, sout0_A_0_eq]
    rfl
  | n + 1, h => by
    have hN : cfg0.N = 16 := N_0
    have hB : ¬(⟨n + 1, h⟩ : Fin cfg0.N).val % 16 = 0 := by dsimp only; omega
    rw [outsAt0_B m c ⟨n + 1, h⟩ hB, out0_B_7_eq]
    have ih := congrArg Prod.snd (outsAt_eq n (Nat.lt_of_succ_lt h))
    refine Prod.ext ?_ ?_
    · show View.canon (ptPieces _ (outsAt0 m c n _).2 _ _) = _
      rw [ih]
    · show (outsAt0 m c n _).2 = _
      rw [ih]

/-- A scaled query, over the arguments. -/
def qArg (b j : Fin 256) : EReal :=
  scaledQ (fun k => (m ((c : Thread nD τ).loc main_arg0) : Vec Ideal S256x256 .f32) (ix2 b k)) (fun k => (m ((c : Thread nD τ).loc main_arg2) : Vec Ideal S256 .f32) (ix1 k))
    (fun k => (m ((c : Thread nD τ).loc main_arg3) : Vec Ideal S256 .f32) (ix1 k)) (fun k => (m ((c : Thread nD τ).loc main_arg4) : Vec Ideal S256x256 .f32) (ix2 j k))
    ((m ((c : Thread nD τ).loc main_arg5) : Vec Ideal S256 .f32) (ix1 j))

/-- The scratch at an index. -/
theorem queries_at (b j : Fin 256) : queries m c (ix2 b j) = qArg m c b j := by
  unfold queries qArg
  rw [pay2_at]
  simp only [iblk0_at, iblk1_at, iblk2_at, iblk3_at, iblk4_at]
  have hx : (fun k => V m c main_arg0 (ix2 b k)) = fun k => m ((c : Thread nD τ).loc main_arg0) (ix2 b k) := funext fun k => congrFun (V_main_arg0 m c) (ix2 b k)
  have hw : (fun k => V m c main_arg4 (ix2 j k)) = fun k => m ((c : Thread nD τ).loc main_arg4) (ix2 j k) := funext fun k => congrFun (V_main_arg4 m c) (ix2 j k)
  have hg : (fun k => V m c main_call0_v0 (ix2 0 k)) = fun k => m ((c : Thread nD τ).loc main_arg2) (ix1 k) := funext fun k => g_at m c k
  have hb : (fun k => V m c main_call0_v1 (ix2 0 k)) = fun k => m ((c : Thread nD τ).loc main_arg3) (ix1 k) := funext fun k => b_at m c k
  have hq : V m c main_call0_v2 (ix2 0 j) = m ((c : Thread nD τ).loc main_arg5) (ix1 j) := bq_at m c j
  exact Eq.trans (congrArg (fun f => scaledQ f _ _ _ _) hx) (Eq.trans (congrArg (fun f => scaledQ _ f _ _ _) hg) (Eq.trans (congrArg (fun f => scaledQ _ _ f _ _) hb)
    (Eq.trans (congrArg (fun f => scaledQ _ _ _ f _) hw) (congrArg (fun f => scaledQ _ _ _ _ f) hq))))

/-- The result array: at every batch row and column, the attention of the row's scaled query over the row's slots. -/
theorem G7_at (b l : Fin 256) : (Cert.KernelIdeal.Value.G7 m c : Vec Ideal S256x256 .f32) (ix2 b l) =
    rowOut (qArg m c b) (fun s j => (m ((c : Thread nD τ).loc main_arg1) : Vec Ideal S256x1024x256 .f32) (ix3 b s j)) l := by
  have hN : cfg0.N = 16 := N_0
  have hp : Cert.KernelIdeal.Value.pt7Of (ix2 b l) = b.val / 16 := by
    show 1 * (b.val / 16 - 0) + 1 * (l.val / 256 - 0) = b.val / 16
    omega
  have ht : b.val / 16 < cfg0.N := by omega
  have hl : Cert.KernelIdeal.Value.loc7Of (ix2 b l) = ix2 (⟨b.val % 16, by omega⟩ : Fin 16) l := by
    funext a
    apply Fin.ext
    match a with
    | ⟨0, _⟩ => rfl
    | ⟨1, _⟩ => show l.val % 256 = l.val; omega
  unfold Cert.KernelIdeal.Value.G7
  rw [dif_pos (by rw [hp]; exact ht), hl, Cert.KernelIdeal.Value.fold0_congr m c _ _ _ (by omega) hp, ← Cert.KernelIdeal.Value.outsAt0_sweep m c (b.val / 16) ht, outsAt_eq]
  dsimp only
  rw [point_at _ _ _ _ fun r n => (iblk6_at m c _ r n).trans (mask_eq m c r n)]
  unfold pointBlock
  have hi : (grid0.coords ⟨b.val / 16, ht⟩ 0).val = b.val / 16 := (index_facts ⟨b.val / 16, ht⟩).2.2.2.2.2.2.2
  congr 1
  · funext j
    rw [queries_at]
    exact congrArg (fun x => qArg m c x j) (Fin.ext (by dsimp only; omega))
  · funext s j
    rw [iblk5_at m c _ _ _ ⟨1024 * b.val + s.val, by omega⟩ (by dsimp only; omega)]
    exact slot_at m c _ b s j rfl

end Cert.KernelIdeal.Gen
-- ==== Proof.RealMath.lean ====
module

public import proofs.«01_k».proof.Proof.PointValue

@[expose] public section

set_option maxRecDepth 16384

noncomputable section

namespace Cert.KernelIdeal.Gen

open Idealize.ShloMosaic

/-! The two programs' scalar functions over real inputs. -/

/-- The row length's literal is 256. -/
theorem lit_256 : Ideal.ofBits .f32 0x43800000#32 = ((256 : ℝ) : EReal) := by
  simp [Ideal.ofBits, Ideal.ieee, -EReal.coe_mul]; norm_num

/-- The score scale's literal is one sixteenth. -/
theorem lit_scale : Ideal.ofBits .f32 0x3D800000#32 = ((1 / 16 : ℝ) : EReal) := by
  simp [Ideal.ofBits, Ideal.ieee, -EReal.coe_mul]; norm_num

/-- The variance's addend is a positive real. -/
theorem lit_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The maximum's start is minus infinity. -/
theorem lit_bot : Ideal.ofBits .f32 0xFF800000#32 = ⊥ := by
  simp [Ideal.ofBits, Ideal.ieee]

/-- The bound of the precondition is plus infinity. -/
theorem lit_top : Ideal.ofBits .f32 0x7F800000#32 = ⊤ := by
  simp [Ideal.ofBits, Ideal.ieee]

/-- A sum of reals, taken in the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The mean of a real row. -/
theorem mean_coe (x : Fin 256 → ℝ) : mean (fun j => (x j : EReal)) = (((∑ j, x j) * (1 / 256) : ℝ) : EReal) := by
  unfold mean
  rw [sum_coe, lit_256, Ideal.div_coe (by norm_num), EReal.coe_mul]

/-- Dividing by the square root of a positive real is multiplying by its reciprocal square root, which is real. -/
theorem div_sqrt (a r : ℝ) (hr : 0 < r) : Ideal.div (a : EReal) (Ideal.sqrt (r : EReal)) = (a : EReal) * Ideal.rsqrt (r : EReal)
    ∧ Ideal.rsqrt (r : EReal) = (((Real.sqrt r)⁻¹ : ℝ) : EReal) := by
  have h0 : Real.sqrt r ≠ 0 := (Real.sqrt_pos.mpr hr).ne'
  have hs : Ideal.sqrt (r : EReal) = ((Real.sqrt r : ℝ) : EReal) := (show (if r < 0 then (⊥ : EReal) else ((Real.sqrt r : ℝ) : EReal)) = _ from if_neg (not_lt.mpr hr.le))
  have hq : Ideal.rsqrt (r : EReal) = (((Real.sqrt r)⁻¹ : ℝ) : EReal) :=
    (show (if r < 0 then (⊥ : EReal) else if r = 0 then ⊤ else (((Real.sqrt r)⁻¹ : ℝ) : EReal)) = _ from (if_neg (not_lt.mpr hr.le)).trans (if_neg hr.ne'))
  refine ⟨?_, hq⟩
  rw [hs, hq, Ideal.div_coe h0, one_div]

/-- A real row's variance with the addend is a positive real. -/
theorem var_pos (x : Fin 256 → ℝ) : ∃ r : ℝ, 0 < r ∧
    mean (fun k => ((x k : EReal) - mean (fun j => (x j : EReal))) * ((x k : EReal) - mean (fun j => (x j : EReal)))) + Ideal.ofBits .f32 0x3727C5AC#32 = (r : EReal) := by
  obtain ⟨e, he, h⟩ := lit_eps
  rw [h]
  refine ⟨(∑ k, (x k - (∑ j, x j) * (1 / 256)) * (x k - (∑ j, x j) * (1 / 256))) * (1 / 256) + e, ?_, ?_⟩
  · have : 0 ≤ ∑ k, (x k - (∑ j, x j) * (1 / 256)) * (x k - (∑ j, x j) * (1 / 256)) := Finset.sum_nonneg fun k _ => mul_self_nonneg _
    positivity
  · rw [EReal.coe_add, ← mean_coe, mean_coe x]
    simp only [EReal.coe_mul, EReal.coe_sub]

/-- A real row's normalisation by division by the square root is the one with the reciprocal square root. -/
theorem lnRow_div (x : Fin 256 → ℝ) (g be : Fin 256 → EReal) (j : Fin 256) :
    Ideal.div ((x j : EReal) - mean (fun j => (x j : EReal))) (Ideal.sqrt (mean (fun k => ((x k : EReal) - mean (fun j => (x j : EReal))) * ((x k : EReal) - mean (fun j => (x j : EReal)))) + Ideal.ofBits .f32 0x3727C5AC#32)) * g j + be j
      = lnRow (fun j => (x j : EReal)) g be j := by
  unfold lnRow
  obtain ⟨r, hr, h⟩ := var_pos x
  rw [h, mean_coe, ← EReal.coe_sub, (div_sqrt _ r hr).1]

/-- A real row's normalisation is real. -/
theorem lnRow_coe (x g be : Fin 256 → ℝ) (j : Fin 256) : ∃ y : ℝ, lnRow (fun j => (x j : EReal)) (fun j => (g j : EReal)) (fun j => (be j : EReal)) j = (y : EReal) := by
  unfold lnRow
  obtain ⟨r, hr, h⟩ := var_pos x
  rw [h, mean_coe, (div_sqrt 0 r hr).2]
  exact ⟨(x j - (∑ j, x j) * (1 / 256)) * (Real.sqrt r)⁻¹ * g j + be j, by simp only [EReal.coe_mul, EReal.coe_sub, EReal.coe_add]⟩

/-- A real query: the unscaled one is a real `y`, the scaled one its sixteenth. -/
theorem query_coe (x g be w : Fin 256 → ℝ) (bq : ℝ) : ∃ y : ℝ,
    (∑ j, lnRow (fun j => (x j : EReal)) (fun j => (g j : EReal)) (fun j => (be j : EReal)) j * (w j : EReal)) + (bq : EReal) = (y : EReal)
    ∧ scaledQ (fun j => (x j : EReal)) (fun j => (g j : EReal)) (fun j => (be j : EReal)) (fun j => (w j : EReal)) (bq : EReal) = ((y * (1 / 16) : ℝ) : EReal) := by
  choose n hn using lnRow_coe x g be
  have h : (∑ j, lnRow (fun j => (x j : EReal)) (fun j => (g j : EReal)) (fun j => (be j : EReal)) j * (w j : EReal)) + (bq : EReal) = ((∑ j, n j * w j) + bq : ℝ) := by
    simp only [hn, ← EReal.coe_mul]
    rw [sum_coe, EReal.coe_add]
  refine ⟨_, h, ?_⟩
  unfold scaledQ
  rw [h, lit_scale, ← EReal.coe_mul]

/-- The largest of 1024 reals, taken from minus infinity, is a real. -/
theorem max_coe (p : Fin 1024 → ℝ) : ∃ M : ℝ, max (Ideal.ofBits .f32 0xFF800000#32) (Finset.fold max (Ideal.ofBits .f32 0xFF800000#32) (fun k : Fin 1024 => (p k : EReal)) Finset.univ) = (M : EReal) := by
  rw [lit_bot, max_eq_right bot_le]
  obtain ⟨i, -, h⟩ := Finset.exists_mem_eq_sup Finset.univ ⟨(0 : Fin 1024), Finset.mem_univ _⟩ (fun k : Fin 1024 => (p k : EReal))
  exact ⟨p i, h⟩

/-- Over reals: the softmax shifted by `M` and divided slot by slot is the unshifted sum divided once. -/
theorem softmax_real (p t : Fin 1024 → ℝ) (M : ℝ) : (∑ k, Real.exp (p k - M) * (1 / ∑ n, Real.exp (p n - M)) * t k) = (∑ s, Real.exp (p s) * t s) * (1 / ∑ s, Real.exp (p s)) := by
  have hM := Real.exp_ne_zero M
  have hpos : (0 : ℝ) < ∑ s : Fin 1024, Real.exp (p s) := Finset.sum_pos (fun s _ => Real.exp_pos _) ⟨0, Finset.mem_univ _⟩
  simp only [Real.exp_sub]
  rw [← Finset.sum_div, Finset.sum_mul]
  refine Finset.sum_congr rfl fun k _ => ?_
  field_simp

/-- The shifted, slot-by-slot softmax attention over real scores and slots is the kernel's row over the scaled query. -/
theorem attention_eq (q : Fin 256 → ℝ) (T : Fin 1024 → Fin 256 → ℝ) (M : ℝ) (l : Fin 256) :
    (∑ k, Ideal.div (Ideal.exp ((∑ d, (q d : EReal) * (T k d : EReal)) * Ideal.ofBits .f32 0x3D800000#32 - (M : EReal)))
        (∑ n, Ideal.exp ((∑ d, (q d : EReal) * (T n d : EReal)) * Ideal.ofBits .f32 0x3D800000#32 - (M : EReal))) * (T k l : EReal))
      = rowOut (fun j => ((q j * (1 / 16) : ℝ) : EReal)) (fun s j => (T s j : EReal)) l := by
  have hs : ∀ k, (∑ d, (q d : EReal) * (T k d : EReal)) * Ideal.ofBits .f32 0x3D800000#32 = ((∑ d, q d * (1 / 16) * T k d : ℝ) : EReal) := fun k => by
    simp only [← EReal.coe_mul, sum_coe, lit_scale]
    rw [Finset.sum_mul]
    exact congrArg _ (Finset.sum_congr rfl fun d _ => by ring)
  have he : ∀ r : ℝ, Ideal.exp (r : EReal) = ((Real.exp r : ℝ) : EReal) := fun r => rfl
  have hn1 : ∑ n, Real.exp ((∑ d, q d * (1 / 16) * T n d) - M) ≠ 0 := (Finset.sum_pos (fun s _ => Real.exp_pos _) ⟨0, Finset.mem_univ _⟩).ne'
  have hn2 : ∑ n, Real.exp (∑ d, q d * (1 / 16) * T n d) ≠ 0 := (Finset.sum_pos (fun s _ => Real.exp_pos _) ⟨0, Finset.mem_univ _⟩).ne'
  unfold rowOut
  simp only [hs]
  simp only [← EReal.coe_sub, he, sum_coe, ← EReal.coe_mul, Ideal.div_coe hn1, Ideal.div_coe hn2]
  rw [softmax_real, one_mul, ← EReal.coe_mul]

end Cert.KernelIdeal.Gen
-- ==== Proof.RefSteps.lean ====
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! What the reference computes, in named steps, and what each step holds at an index. -/

/-- The mean of each row. -/
def rowMean (x : FVec Ideal S256x256 .f32) : FVec Ideal S256x1 .f32 :=
  Host.divf (broadcastInDim S256x1 ![0] bcast_S256_S256x1_0 (Host.reduceAdd x (constant S_ .f32 0x00000000#32) reducesTo_S256x256_S256_d1 h_S_)) (broadcastInDim S256x1 ![] bcast_S_S256x1 (constant S_ .f32 0x43800000#32))

/-- Each entry less the mean of its row. -/
def centred (x : FVec Ideal S256x256 .f32) : FVec Ideal S256x256 .f32 :=
  subf x (broadcastInDim S256x256 ![0, 1] bcast_S256x1_S256x256_0_1 (rowMean x))

/-- The layer normalisation: centred, divided by the standard deviation, scaled and shifted. -/
def normed (x : FVec Ideal S256x256 .f32) (g be : FVec Ideal S256 .f32) : FVec Ideal S256x256 .f32 :=
  addf (mulf (Host.divf (centred x) (broadcastInDim S256x256 ![0, 1] bcast_S256x1_S256x256_0_1 (Host.sqrt (addf (rowMean (mulf (centred x) (centred x))) (broadcastInDim S256x1 ![] bcast_S_S256x1 (constant S_ .f32 0x3727C5AC#32)))))) (broadcastInDim S256x256 ![0, 1] bcast_S1x256_S256x256_0_1 (broadcastInDim S1x256 ![1] bcast_S256_S1x256_1 g))) (broadcastInDim S256x256 ![0, 1] bcast_S1x256_S256x256_0_1 (broadcastInDim S1x256 ![1] bcast_S256_S1x256_1 be))

/-- The query projection of the normalised rows. -/
def query (xn W : FVec Ideal S256x256 .f32) (bq : FVec Ideal S256 .f32) : FVec Ideal S256x256 .f32 :=
  addf (Host.dotGeneral dot_S256x256_S256x256_S256x256_1_0_0_1_n_n none xn (transpose S256x256 [1, 0] W transposes_S256x256_S256x256_1_0)) (broadcastInDim S256x256 ![0, 1] bcast_S1x256_S256x256_0_1 (broadcastInDim S1x256 ![1] bcast_S256_S1x256_1 bq))

/-- The scaled scores of each query against its own slots. -/
def scores (q : FVec Ideal S256x256 .f32) (s : FVec Ideal S256x1024x256 .f32) : FVec Ideal S256x1024 .f32 :=
  mulf (Host.dotGeneral dot_S256x256_S256x1024x256_S256x1024_1_2_n_1_0_0 none q s) (broadcastInDim S256x1024 ![] bcast_S_S256x1024 (constant S_ .f32 0x3D800000#32))

/-- The exponentials of the scores less the largest score of the row. -/
def shifted (p : FVec Ideal S256x1024 .f32) : FVec Ideal S256x1024 .f32 :=
  Host.exp (subf p (broadcastInDim S256x1024 ![0, 1] bcast_S256x1_S256x1024_0_1 (broadcastInDim S256x1 ![0] bcast_S256_S256x1_0 (maximumf (broadcastInDim S256 ![] bcast_S_S256 (constant S_ .f32 0xFF800000#32)) (Host.reduce FloatOps.maximumf p (constant S_ .f32 0xFF800000#32) reducesTo_S256x1024_S256_d1 h_S_)))))

/-- The weights divided by their row sum, contracted with the slots. -/
def attend (e : FVec Ideal S256x1024 .f32) (s : FVec Ideal S256x1024x256 .f32) : FVec Ideal S256x256 .f32 :=
  Host.dotGeneral dot_S256x1024_S256x1024x256_S256x256_1_1_n_2_0_0 none (Host.divf e (broadcastInDim S256x1024 ![0, 1] bcast_S256x1_S256x1024_0_1 (broadcastInDim S256x1 ![0] bcast_S256_S256x1_0 (Host.reduceAdd e (constant S_ .f32 0x00000000#32) reducesTo_S256x1024_S256_d1 h_S_)))) s

variable (m : (ℓ : Loc nD τ sig) → Buf (Elt Ideal) ℓ) (c : Dev nD)

/-- The reference's result is those steps in order. -/
theorem res_eq : res_main_v43 m c = attend (shifted (scores (query (normed (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (m ((c.tc : Thread nD τ).loc main_arg1)))) (m ((c.tc : Thread nD τ).loc main_arg1)) := rfl

/-- A row mean at an index. -/
theorem rowMean_at (x : FVec Ideal S256x256 .f32) (r : Fin 256) : rowMean x (ix2 r 0) =
    Ideal.div (∑ j : Fin 256, x (ix2 r j)) (Ideal.ofBits .f32 0x43800000#32) := by
  unfold rowMean
  pointwise

/-- A centred entry. -/
theorem centred_at (x : FVec Ideal S256x256 .f32) (r l : Fin 256) :
    centred x (ix2 r l) = x (ix2 r l) - rowMean x (ix2 r 0) := by
  unfold centred
  pointwise

/-- A normalised entry. -/
theorem normed_at (x : FVec Ideal S256x256 .f32) (g be : FVec Ideal S256 .f32) (r l : Fin 256) : normed x g be (ix2 r l) =
    Ideal.div (centred x (ix2 r l))
        (Ideal.sqrt (rowMean (mulf (centred x) (centred x)) (ix2 r 0) + Ideal.ofBits .f32 0x3727C5AC#32)) * g (ix1 l) + be (ix1 l) := by
  unfold normed
  pointwise

/-- A query entry. -/
theorem query_at (x W : FVec Ideal S256x256 .f32) (bq : FVec Ideal S256 .f32) (r l : Fin 256) : query x W bq (ix2 r l) =
    (∑ j : Fin 256, x (ix2 r j) * W (ix2 l j)) + bq (ix1 l) := by
  unfold query
  pointwise [dot_S256x256_S256x256_S256x256_1_0_0_1_n_n]

/-- A score. -/
theorem scores_at (q : FVec Ideal S256x256 .f32) (s : FVec Ideal S256x1024x256 .f32) (r : Fin 256) (l : Fin 1024) :
    scores q s (ix2 r l) = (∑ d : Fin 256, q (ix2 r d) * s (ix3 r l d)) * Ideal.ofBits .f32 0x3D800000#32 := by
  unfold scores
  pointwise [dot_S256x256_S256x1024x256_S256x1024_1_2_n_1_0_0]

/-- A shifted exponential. -/
theorem shifted_at (p : FVec Ideal S256x1024 .f32) (r : Fin 256) (l : Fin 1024) : shifted p (ix2 r l) =
    Ideal.exp (p (ix2 r l) - max (Ideal.ofBits .f32 0xFF800000#32)
      (Finset.fold max (Ideal.ofBits .f32 0xFF800000#32) (fun k : Fin 1024 => p (ix2 r k)) Finset.univ)) := by
  unfold shifted
  pointwise

/-- A result entry. -/
theorem attend_at (e : FVec Ideal S256x1024 .f32) (s : FVec Ideal S256x1024x256 .f32) (r l : Fin 256) : attend e s (ix2 r l) =
    ∑ k : Fin 1024, Ideal.div (e (ix2 r k)) (∑ n : Fin 1024, e (ix2 r n)) * s (ix3 r k l) := by
  unfold attend
  pointwise [dot_S256x1024_S256x1024x256_S256x256_1_1_n_2_0_0]

end Cert.ReferenceIdeal.Value
-- ==== Proof.Equation.lean ====
module

public import proofs.«01_k».proof.Proof.ArrayValue
public import proofs.«01_k».proof.Proof.RealMath
public import proofs.«01_k».proof.Proof.RefSteps

@[expose] public section

set_option maxRecDepth 16384

noncomputable section

namespace Cert.Proof

open Idealize.ShloMosaic Cert.KernelIdeal.Gen Cert.ReferenceIdeal.Value

/-- The reference's normalised entry, at a row of reals, is the kernel's. -/
theorem normed_row (x : FVec Ideal Cert.ReferenceIdeal.S256x256 .f32) (g be : FVec Ideal Cert.ReferenceIdeal.S256 .f32) (r l : Fin 256)
    (X : Fin 256 → ℝ) (hX : ∀ j, x (ix2 r j) = (X j : EReal)) :
    normed x g be (ix2 r l) = lnRow (fun j => (X j : EReal)) (fun j => g (ix1 j)) (fun j => be (ix1 j)) l := by
  have hm : rowMean x (ix2 r 0) = mean (fun j => (X j : EReal)) := by
    rw [rowMean_at]
    simp only [hX]
    rfl
  have hc : ∀ j, centred x (ix2 r j) = (X j : EReal) - mean (fun j => (X j : EReal)) := fun j => by rw [centred_at, hm, hX]
  have hv : rowMean (mulf (centred x) (centred x)) (ix2 r 0) = mean (fun k => ((X k : EReal) - mean (fun j => (X j : EReal))) * ((X k : EReal) - mean (fun j => (X j : EReal)))) := by
    rw [rowMean_at]
    show Ideal.div (∑ j, centred x (ix2 r j) * centred x (ix2 r j)) _ = _
    simp only [hc]
    rfl
  rw [normed_at, hv, hc]
  exact lnRow_div X (fun j => g (ix1 j)) (fun j => be (ix1 j)) l

/-- Over arrays of reals the reference's attention, at an index, is the kernel's row over its scaled query. -/
theorem reference_at (x : FVec Ideal Cert.ReferenceIdeal.S256x256 .f32) (s : FVec Ideal Cert.ReferenceIdeal.S256x1024x256 .f32)
    (g be : FVec Ideal Cert.ReferenceIdeal.S256 .f32) (W : FVec Ideal Cert.ReferenceIdeal.S256x256 .f32) (bq : FVec Ideal Cert.ReferenceIdeal.S256 .f32)
    (hx : ∀ i, ∃ r : ℝ, x i = (r : EReal)) (hs : ∀ i, ∃ r : ℝ, s i = (r : EReal)) (hg : ∀ i, ∃ r : ℝ, g i = (r : EReal))
    (hbe : ∀ i, ∃ r : ℝ, be i = (r : EReal)) (hW : ∀ i, ∃ r : ℝ, W i = (r : EReal)) (hbq : ∀ i, ∃ r : ℝ, bq i = (r : EReal)) (b l : Fin 256) :
    attend (shifted (scores (query (normed x g be) W bq) s)) s (ix2 b l)
      = rowOut (fun j => scaledQ (fun k => x (ix2 b k)) (fun k => g (ix1 k)) (fun k => be (ix1 k)) (fun k => W (ix2 j k)) (bq (ix1 j))) (fun n j => s (ix3 b n j)) l := by
  choose X hX using hx
  choose T hT using hs
  choose G hG using hg
  choose B hB using hbe
  choose Wr hWr using hW
  choose Q hQ using hbq
  choose y hy hz using fun j : Fin 256 => query_coe (fun k => X (ix2 b k)) (fun k => G (ix1 k)) (fun k => B (ix1 k)) (fun k => Wr (ix2 j k)) (Q (ix1 j))
  have hq : ∀ j, query (normed x g be) W bq (ix2 b j) = (y j : EReal) := fun j => by
    rw [query_at, ← hy j]
    simp only [normed_row x g be b _ (fun k => X (ix2 b k)) (fun k => hX _), hG, hB, hWr, hQ]
  have hp : ∀ n, scores (query (normed x g be) W bq) s (ix2 b n) = (∑ d, (y d : EReal) * (T (ix3 b n d) : EReal)) * Ideal.ofBits .f32 0x3D800000#32 := fun n => by
    rw [scores_at]
    simp only [hq, hT]
  have hr : ∀ n, ∃ p : ℝ, (∑ d, (y d : EReal) * (T (ix3 b n d) : EReal)) * Ideal.ofBits .f32 0x3D800000#32 = (p : EReal) := fun n =>
    ⟨(∑ d, y d * T (ix3 b n d)) * (1 / 16), by simp only [← EReal.coe_mul, sum_coe, lit_scale]⟩
  choose P hP using hr
  obtain ⟨M, hM⟩ := max_coe P
  have he : ∀ n, shifted (scores (query (normed x g be) W bq) s) (ix2 b n)
      = Ideal.exp ((∑ d, (y d : EReal) * (T (ix3 b n d) : EReal)) * Ideal.ofBits .f32 0x3D800000#32 - (M : EReal)) := fun n => by
    rw [shifted_at, ← hM]
    simp only [hp, hP]
  rw [attend_at]
  simp only [he, hT, hX, hG, hB, hWr, hQ, hz]
  exact attention_eq y (fun n d => T (ix3 b n d)) M l

end Cert.Proof
-- ==== Proof.Finite.lean ====
module

public import proofs.«01_k».proof.Defs
public import proofs.«01_k».proof.Proof.RealMath

@[expose] public section

set_option maxRecDepth 16384

noncomputable section

namespace Cert.Proof

open Idealize.ShloMosaic

/-- The precondition's shape relations hold. -/
theorem finite_facts : Cert.Pre_finite.Facts where
  bcast_S_S256x256 := by decide
  bcast_S_S256x1024x256 := by decide
  bcast_S_S256 := by decide

/-- An extended real whose absolute value compares below plus infinity is a real. -/
theorem real_of_olt (x : EReal) (h : Ideal.cmp .olt (FloatOps.absf (F := Ideal) (φ := .f32) x) (Ideal.ofBits .f32 0x7F800000#32) = 1#1) : ∃ r : ℝ, x = (r : EReal) := by
  rw [Cert.KernelIdeal.Gen.lit_top] at h
  induction x using EReal.rec with
  | bot => exact absurd h (by simp [FloatOps.absf, Ideal.cmp])
  | coe r => exact ⟨r, rfl⟩
  | top => exact absurd h (by simp [FloatOps.absf, Ideal.cmp])

/-- An array compared all below plus infinity in absolute value is an array of reals. -/
theorem real_of_cmp {s : Shape} (x : FVec Ideal s .f32) (top : FVec Ideal s .f32) (ht : ∀ i, top i = Ideal.ofBits .f32 0x7F800000#32)
    (h : cmpf .olt (Host.absf x) top = fun _ => 1#1) (i : s.Idx) : ∃ r : ℝ, x i = (r : EReal) := by
  have hi : Ideal.cmp .olt (FloatOps.absf (F := Ideal) (φ := .f32) (x i)) (top i) = 1#1 := congrFun h i
  rw [ht] at hi
  exact real_of_olt _ hi

/-- Under the precondition every entry of every argument is a real. -/
theorem args_real (m : (ℓ : Loc Cert.KernelIdeal.nD Cert.KernelIdeal.τ Cert.KernelIdeal.sig) → Buf (Elt Ideal) ℓ)
    (h : Cert.Pre_KernelIdeal_finite (hPre_finite := finite_facts) m) (c : Dev Cert.KernelIdeal.nD) :
    (∀ i, ∃ r : ℝ, (m ((c.tc : Thread Cert.KernelIdeal.nD Cert.KernelIdeal.τ).loc Cert.KernelIdeal.main_arg0) : FVec Ideal Cert.KernelIdeal.S256x256 .f32) i = (r : EReal))
    ∧ (∀ i, ∃ r : ℝ, (m ((c.tc : Thread Cert.KernelIdeal.nD Cert.KernelIdeal.τ).loc Cert.KernelIdeal.main_arg1) : FVec Ideal Cert.KernelIdeal.S256x1024x256 .f32) i = (r : EReal))
    ∧ (∀ i, ∃ r : ℝ, (m ((c.tc : Thread Cert.KernelIdeal.nD Cert.KernelIdeal.τ).loc Cert.KernelIdeal.main_arg2) : FVec Ideal Cert.KernelIdeal.S256 .f32) i = (r : EReal))
    ∧ (∀ i, ∃ r : ℝ, (m ((c.tc : Thread Cert.KernelIdeal.nD Cert.KernelIdeal.τ).loc Cert.KernelIdeal.main_arg3) : FVec Ideal Cert.KernelIdeal.S256 .f32) i = (r : EReal))
    ∧ (∀ i, ∃ r : ℝ, (m ((c.tc : Thread Cert.KernelIdeal.nD Cert.KernelIdeal.τ).loc Cert.KernelIdeal.main_arg4) : FVec Ideal Cert.KernelIdeal.S256x256 .f32) i = (r : EReal))
    ∧ (∀ i, ∃ r : ℝ, (m ((c.tc : Thread Cert.KernelIdeal.nD Cert.KernelIdeal.τ).loc Cert.KernelIdeal.main_arg5) : FVec Ideal Cert.KernelIdeal.S256 .f32) i = (r : EReal)) := by
  obtain ⟨h0, h1, h2, h3, h4, h5⟩ := h c
  exact ⟨real_of_cmp _ _ (fun _ => rfl) h0, real_of_cmp _ _ (fun _ => rfl) h1, real_of_cmp _ _ (fun _ => rfl) h2,
    real_of_cmp _ _ (fun _ => rfl) h3, real_of_cmp _ _ (fun _ => rfl) h4, real_of_cmp _ _ (fun _ => rfl) h5⟩

end Cert.Proof
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and ends with every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories of the precondition. -/
theorem quiescent_ReferenceIdeal_finite : quiescent_ReferenceIdeal_pre_finite (hPre_finite := finite_facts) := fun m ρ _ =>
  quiescent_ReferenceIdeal m ρ trivial

/-- From memories agreeing on arguments that are all real, the kernel and the reference end with equal results. -/
theorem algebraic : algebraic_KernelIdeal_ReferenceIdeal_pre_finite (hPre_finite := finite_facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨e0, e1, e2, e3, e4, e5⟩ := hagree c
  obtain ⟨r0, r1, r2, r3, r4, r5⟩ := args_real m hpre c
  refine (Cert.ReferenceIdeal.Value.res_eq m' c).trans ?_
  rw [e0, e1, e2, e3, e4, e5]
  refine funext fun i => ?_
  have hi : i = ix2 (i 0) (i 1) := by
    funext a
    match a with
    | ⟨0, _⟩ => rfl
    | ⟨1, _⟩ => rfl
  rw [hi]
  exact (reference_at _ _ _ _ _ _ r0 r1 r2 r3 r4 r5 (i 0) (i 1)).trans (Cert.KernelIdeal.Gen.G7_at m c (i 0) (i 1)).symm

/-- The whole claim. -/
theorem claim : Cert.Claim := ⟨Cert.Kernel.Gen.facts, Cert.KernelIdeal.Gen.facts, Cert.ReferenceIdeal.Gen.facts, finite_facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_finite, (trivial : preserves_Kernel_KernelIdeal), algebraic⟩

end Cert.Proof

end
